-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x16256 : Shape := ⟨3, ![1, 512, 16256]⟩
abbrev S8128x18944 : Shape := ⟨2, ![8128, 18944]⟩
abbrev S127x18944 : Shape := ⟨2, ![127, 18944]⟩
abbrev S512x16256 : Shape := ⟨2, ![512, 16256]⟩
abbrev S512x18944 : Shape := ⟨2, ![512, 18944]⟩
abbrev S8128x512 : Shape := ⟨2, ![8128, 512]⟩
abbrev S127x512 : Shape := ⟨2, ![127, 512]⟩
abbrev S512x512 : Shape := ⟨2, ![512, 512]⟩
abbrev S64x512 : Shape := ⟨2, ![64, 512]⟩
abbrev S1x512 : Shape := ⟨2, ![1, 512]⟩
abbrev S128x512 : Shape := ⟨2, ![128, 512]⟩
abbrev S256x512 : Shape := ⟨2, ![256, 512]⟩
abbrev S512x256 : Shape := ⟨2, ![512, 256]⟩
abbrev S512x128 : Shape := ⟨2, ![512, 128]⟩
abbrev S1x512x18944 : Shape := ⟨3, ![1, 512, 18944]⟩

abbrev nBuf : Space → Nat
  | .hbm => 6
  | .vmem => 7
  | .smem => 0
  | _ => 0

abbrev bufTy : (tb : Table) → Fin (tcTables nBuf tb) → BufTy
  | .hbm, ⟨0, _⟩ => ⟨S1x512x16256, .bf16⟩
  | .hbm, ⟨1, _⟩ => ⟨S8128x18944, .i8⟩
  | .hbm, ⟨2, _⟩ => ⟨S127x18944, .bf16⟩
  | .hbm, ⟨3, _⟩ => ⟨S512x16256, .bf16⟩
  | .hbm, ⟨4, _⟩ => ⟨S512x18944, .bf16⟩
  | .hbm, ⟨5, _⟩ => ⟨S1x512x18944, .bf16⟩
  | .local _ .vmem, ⟨0, _⟩ => ⟨S512x16256, .bf16⟩
  | .local _ .vmem, ⟨1, _⟩ => ⟨S8128x512, .i8⟩
  | .local _ .vmem, ⟨2, _⟩ => ⟨S8128x512, .i8⟩
  | .local _ .vmem, ⟨3, _⟩ => ⟨S127x512, .bf16⟩
  | .local _ .vmem, ⟨4, _⟩ => ⟨S127x512, .bf16⟩
  | .local _ .vmem, ⟨5, _⟩ => ⟨S512x512, .bf16⟩
  | .local _ .vmem, ⟨6, _⟩ => ⟨S512x512, .bf16⟩
  | _, _ => ⟨S1x512x16256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![37], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x16256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8128x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S127x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S1x512x16256 : Shape := ⟨3, ![1, 512, 16256]⟩
abbrev S8128x18944 : Shape := ⟨2, ![8128, 18944]⟩
abbrev S127x18944 : Shape := ⟨2, ![127, 18944]⟩
abbrev S_ : Shape := ⟨0, ![]⟩
abbrev S127x64x18944 : Shape := ⟨3, ![127, 64, 18944]⟩
abbrev S127x1x18944 : Shape := ⟨3, ![127, 1, 18944]⟩
abbrev S1x512x8128 : Shape := ⟨3, ![1, 512, 8128]⟩
abbrev S1x512x18944 : Shape := ⟨3, ![1, 512, 18944]⟩

abbrev nBuf : Space → Nat
  | .hbm => 34
  | .vmem => 0
  | .smem => 0
  | _ => 0

abbrev bufTy : (tb : Table) → Fin (tcTables nBuf tb) → BufTy
  | .hbm, ⟨0, _⟩ => ⟨S1x512x16256, .bf16⟩
  | .hbm, ⟨1, _⟩ => ⟨S8128x18944, .i8⟩
  | .hbm, ⟨2, _⟩ => ⟨S127x18944, .bf16⟩
  | .hbm, ⟨3, _⟩ => ⟨S8128x18944, .i32⟩
  | .hbm, ⟨4, _⟩ => ⟨S_, .i32⟩
  | .hbm, ⟨5, _⟩ => ⟨S8128x18944, .i32⟩
  | .hbm, ⟨6, _⟩ => ⟨S8128x18944, .i32⟩
  | .hbm, ⟨7, _⟩ => ⟨S_, .i32⟩
  | .hbm, ⟨8, _⟩ => ⟨S8128x18944, .i32⟩
  | .hbm, ⟨9, _⟩ => ⟨S8128x18944, .i32⟩
  | .hbm, ⟨10, _⟩ => ⟨S8128x18944, .bf16⟩
  | .hbm, ⟨11, _⟩ => ⟨S_, .bf16⟩
  | .hbm, ⟨12, _⟩ => ⟨S8128x18944, .bf16⟩
  | .hbm, ⟨13, _⟩ => ⟨S8128x18944, .bf16⟩
  | .hbm, ⟨14, _⟩ => ⟨S127x64x18944, .bf16⟩
  | .hbm, ⟨15, _⟩ => ⟨S127x1x18944, .bf16⟩
  | .hbm, ⟨16, _⟩ => ⟨S127x64x18944, .bf16⟩
  | .hbm, ⟨17, _⟩ => ⟨S127x64x18944, .bf16⟩
  | .hbm, ⟨18, _⟩ => ⟨S8128x18944, .bf16⟩
  | .hbm, ⟨19, _⟩ => ⟨S8128x18944, .bf16⟩
  | .hbm, ⟨20, _⟩ => ⟨S_, .bf16⟩
  | .hbm, ⟨21, _⟩ => ⟨S8128x18944, .bf16⟩
  | .hbm, ⟨22, _⟩ => ⟨S8128x18944, .bf16⟩
  | .hbm, ⟨23, _⟩ => ⟨S127x64x18944, .bf16⟩
  | .hbm, ⟨24, _⟩ => ⟨S127x1x18944, .bf16⟩
  | .hbm, ⟨25, _⟩ => ⟨S127x64x18944, .bf16⟩
  | .hbm, ⟨26, _⟩ => ⟨S127x64x18944, .bf16⟩
  | .hbm, ⟨27, _⟩ => ⟨S8128x18944, .bf16⟩
  | .hbm, ⟨28, _⟩ => ⟨S1x512x8128, .bf16⟩
  | .hbm, ⟨29, _⟩ => ⟨S1x512x18944, .f32⟩
  | .hbm, ⟨30, _⟩ => ⟨S1x512x8128, .bf16⟩
  | .hbm, ⟨31, _⟩ => ⟨S1x512x18944, .f32⟩
  | .hbm, ⟨32, _⟩ => ⟨S1x512x18944, .f32⟩
  | .hbm, ⟨33, _⟩ => ⟨S1x512x18944, .bf16⟩
  | _, _ => ⟨S1x512x16256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== Proof.Steps.lean ====
/-
  The kernel's block as a RECURSION. The body is one straight line: 63 steps, each over two groups of 128 weight rows,
  and a last step over the one group left. Here one group's weights (`deq`), one step (`step`), the accumulator after
  `n` steps (`acc`) and the block stored at the end (`block`) are definitions over a step number, and `out_eq_block`
  says the straight line computes `block`.
-/
module

public import proofs.«01_k».proof.Proof.Gen.KernelIdeal.Frame

@[expose] public section

set_option maxRecDepth 16384

noncomputable section

namespace Cert.Proof.Block

open Idealize.ShloMosaic Cert.KernelIdeal Cert.KernelIdeal.Gen

variable {F : FTy → Type} [FloatOps F]

/-- The words of 64 packed rows: each byte's low four bits in the low half and its high four bits in the high half, over
    the exponent of 128. -/
def words (w : Vec F S64x512 .i8) : IVec S64x512 32 :=
  ori (andi (ori (extui 32 w natLt_8_32) (shli (extui 32 w natLt_8_32) (broadcast S64x512 12#32)))
    (broadcast S64x512 983055#32)) (broadcast S64x512 1124090624#32)

/-- The 128 weight rows of one group: each half word read as a float, less 136, times the group's scale. -/
def deq (w : Vec F S64x512 .i8) (s : Vec F S1x512 .bf16) : FVec F S128x512 .bf16 :=
  mulf (subf (bitcastToFloat .bf16 (bitcast S128x512 16 (words w) bitcasts_S64x512_w32_S128x512_w16))
      (broadcast S128x512 (Scalar.ofBits .bf16 0x4308#16)))
    (broadcastTo S128x512 s broadcasts_S1x512_S128x512)

/-- One step: the product of 256 columns of the activations with two groups' weights, added to the accumulator. -/
def step (a : FVec F S512x512 .f32) (w : Vec F S64x512 .i8) (s : Vec F S1x512 .bf16) (w' : Vec F S64x512 .i8)
    (s' : Vec F S1x512 .bf16) (x : Vec F S512x256 .bf16) : FVec F S512x512 .f32 :=
  addf a (matmul dot_S512x256_S256x512_S512x512_1_0_0_1_n_n none
    (shapeCast S512x256 x shapeCasts_S512x256_S512x256)
    (concatenate S256x512 0 [⟨S128x512, deq w s⟩, ⟨S128x512, deq w' s'⟩] concatenates_S128x512_S128x512_S256x512_d0)
    (constant S512x512 .f32 0x00000000#32))

/-- The last step: 128 columns with one group's weights. -/
def last (a : FVec F S512x512 .f32) (w : Vec F S64x512 .i8) (s : Vec F S1x512 .bf16) (x : Vec F S512x128 .bf16) :
    FVec F S512x512 .f32 :=
  addf a (matmul dot_S512x128_S128x512_S512x512_1_0_0_1_n_n none
    (shapeCast S512x128 x shapeCasts_S512x128_S512x128) (deq w s) (constant S512x512 .f32 0x00000000#32))

variable (x0 : Vec F S512x16256 .bf16) (x1 : Vec F S8128x512 .i8) (x2 : Vec F S127x512 .bf16)

/-- The 64 packed rows of group `g`, -/
def codes (g : ℕ) (hg : g < 127) : Vec F S64x512 .i8 :=
  View.ld x1 (Rect.unit (s := S8128x512) ![64 * g, 0] S64x512.size
    (by intro a; fin_cases a <;> simp [S64x512, S8128x512]; omega))
/-- its row of scales, -/
def scales (g : ℕ) (hg : g < 127) : Vec F S1x512 .bf16 :=
  View.ld x2 (Rect.unit (s := S127x512) ![g, 0] S1x512.size
    (by intro a; fin_cases a <;> simp [S1x512, S127x512]; omega))
/-- and the 256 columns of the activations step `n` reads. -/
def cols (n : ℕ) (hn : n < 63) : Vec F S512x256 .bf16 :=
  View.ld x0 (Rect.unit (s := S512x16256) ![0, 256 * n] S512x256.size
    (by intro a; fin_cases a <;> simp [S512x256, S512x16256]; omega))
/-- The last 128 columns of the activations. -/
def colsLast : Vec F S512x128 .bf16 :=
  View.ld x0 (Rect.unit (s := S512x16256) ![0, 16128] S512x128.size
    (by intro a; fin_cases a <;> simp [S512x128, S512x16256]))

/-- The accumulator after `n` steps. -/
def acc : (n : ℕ) → n ≤ 63 → FVec F S512x512 .f32
  | 0, _ => broadcast S512x512 (Scalar.ofBits .f32 0x00000000#32)
  | n + 1, h => step (acc n (by omega)) (codes x1 (2 * n) (by omega)) (scales x2 (2 * n) (by omega))
      (codes x1 (2 * n + 1) (by omega)) (scales x2 (2 * n + 1) (by omega)) (cols x0 n (by omega))

/-- The block stored: the last step's sum, at the result's element type. -/
def block : FVec F S512x512 .bf16 :=
  truncf .bf16 (last (acc x0 x1 x2 63 (by omega)) (codes x1 126 (by omega)) (scales x2 126 (by omega)) (colsLast x0))
    bitsLt_bf16_f32

/-- The body's straight line leaves `block` in its result block. -/
theorem out_eq_block : out0_3 x0 x1 x2 = View.canon [⟨r0_318, block x0 x1 x2⟩] := by
  rfl

end Cert.Proof.Block
-- ==== Proof.Spec.lean ====
/-
  What the product is, with no array shapes in it: a row of activations `X`, a column of packed bytes `W` and a column of
  scales `S`, each a function of a natural number, and the sum `dot X W S n` of the first `n` products. Row `2 r` of the
  weights is the low four bits of byte `r` and row `2 r + 1` its high four bits; each is less 8 and times the scale of
  its group of 128 rows.
-/
module

public import Idealize.ShloMosaic.Lib.Pointwise
public import Idealize.ShloMosaic.Lib.BitcastPair

@[expose] public section

noncomputable section

namespace Cert.Proof.Spec

open Idealize.ShloMosaic
open scoped BigOperators

/-- The low four bits of a byte (`p = 0`) or its high four bits (`p = 1`), as a number. -/
def nib (b : BitVec 8) (p : ℕ) : ℕ := b.toNat / 16 ^ p % 16

/-- Those four bits less 8, the code's value. -/
def val (b : BitVec 8) (p : ℕ) : EReal := (((nib b p : ℝ) - 8 : ℝ) : EReal)

/-- Weight row `k` of one column. -/
def wt (W : ℕ → BitVec 8) (S : ℕ → EReal) (k : ℕ) : EReal := val (W (k / 2)) (k % 2) * S (k / 128)

/-- The first `n` products of one row with one column, summed. -/
def dot (X : ℕ → EReal) (W : ℕ → BitVec 8) (S : ℕ → EReal) (n : ℕ) : EReal :=
  ∑ k ∈ Finset.range n, X k * wt W S k

/-- An array of two axes at two natural numbers, zero outside it. -/
def at2 {α : Type} [Zero α] {R C : ℕ} (A : (⟨2, ![R, C]⟩ : Shape).Idx → α) (r c : ℕ) : α :=
  if h : r < R ∧ c < C then A (ix2 ⟨r, h.1⟩ ⟨c, h.2⟩) else 0

/-- Inside the array it is the array's element. -/
theorem at2_of_lt {α : Type} [Zero α] {R C : ℕ} (A : (⟨2, ![R, C]⟩ : Shape).Idx → α) {r c : ℕ} (hr : r < R)
    (hc : c < C) : at2 A r c = A (ix2 ⟨r, hr⟩ ⟨c, hc⟩) := dif_pos ⟨hr, hc⟩

/-- The whole result: at row `r`, column `c`, the sum of all 16256 products of row `r` of the activations with column `c`
    of the weights. -/
def product (x : (⟨3, ![1, 512, 16256]⟩ : Shape).Idx → EReal) (w : (⟨2, ![8128, 18944]⟩ : Shape).Idx → BitVec 8)
    (s : (⟨2, ![127, 18944]⟩ : Shape).Idx → EReal) (r : Fin 512) (c : Fin 18944) : EReal :=
  dot (fun k => if h : k < 16256 then x (ix3 0 r ⟨k, h⟩) else 0) (fun k => at2 w k c) (fun k => at2 s k c) 16256

/-- The sum taken over the even rows of the weights and over the odd rows. -/
theorem dot_even_odd (X : ℕ → EReal) (W : ℕ → BitVec 8) (S : ℕ → EReal) (n : ℕ) :
    dot X W S (2 * n) = (∑ k : Fin n, X (2 * k) * (val (W k) 0 * S (k / 64)))
      + ∑ k : Fin n, X (2 * k + 1) * (val (W k) 1 * S (k / 64)) := by
  rw [← Finset.sum_range (fun k => X (2 * k) * (val (W k) 0 * S (k / 64))),
    ← Finset.sum_range (fun k => X (2 * k + 1) * (val (W k) 1 * S (k / 64))), ← Finset.sum_add_distrib]
  unfold dot
  induction n with
  | zero => simp
  | succ n ih =>
    rw [show 2 * (n + 1) = 2 * n + 1 + 1 by omega, Finset.sum_range_succ, Finset.sum_range_succ, ih,
      Finset.sum_range_succ, wt, wt, show 2 * n / 2 = n by omega, show 2 * n % 2 = 0 by omega,
      show 2 * n / 128 = n / 64 by omega, show (2 * n + 1) / 2 = n by omega, show (2 * n + 1) % 2 = 1 by omega,
      show (2 * n + 1) / 128 = n / 64 by omega, add_assoc]

/-- The two halves of a byte's word, bit for bit. -/
theorem half_bits : ∀ (b : Fin 256) (p : Fin 2),
    (((((BitVec.ofFin b : BitVec 8).setWidth 32 ||| (BitVec.ofFin b : BitVec 8).setWidth 32 <<< 12) &&& 983055#32)
        ||| 1124090624#32).extractLsb' (16 * p.val) 16)
      = BitVec.ofNat 16 (0x4300 + nib (BitVec.ofFin b) p.val) := by decide +kernel

/-- Four bits count below sixteen. -/
theorem nib_lt (b : BitVec 8) (p : ℕ) : nib b p < 16 := Nat.mod_lt _ (by decide)

/-- The sixteen floats with the exponent of 128 and four bits of fraction count from 128 by ones. -/
theorem count_val (n : ℕ) (hn : n < 16) :
    Ideal.ofBits .bf16 (BitVec.ofNat 16 (0x4300 + n)) = (((128 + n : ℕ) : ℝ) : EReal) := by
  interval_cases n <;> (simp [Ideal.ofBits, Ideal.ieee]; try norm_num)

/-- 136 and 8. -/
theorem ofBits_136 : Ideal.ofBits .bf16 0x4308#16 = ((136 : ℝ) : EReal) := by
  simp [Ideal.ofBits, Ideal.ieee, -EReal.coe_mul]
theorem ofBits_8 : Ideal.ofBits .bf16 0x4100#16 = ((8 : ℝ) : EReal) := by
  simp [Ideal.ofBits, Ideal.ieee, -EReal.coe_mul]; norm_num

/-- Each half of a byte's word, read as a float and less 136, is the code's value. -/
theorem half_val (b : BitVec 8) (p : ℕ) (hp : p < 2) :
    Ideal.ofBits .bf16 ((((b.setWidth 32 ||| b.setWidth 32 <<< 12) &&& 983055#32) ||| 1124090624#32).extractLsb' (16 * p) 16)
        - Ideal.ofBits .bf16 0x4308#16
      = val b p := by
  rw [show b = BitVec.ofFin b.toFin from rfl, half_bits b.toFin ⟨p, hp⟩, count_val _ (nib_lt _ _), ofBits_136,
    ← EReal.coe_sub, val]
  congr 1
  push_cast
  ring

/-- A byte as a 32-bit word: its low four bits by a mask, its high four by a shift. -/
theorem mask_toInt : ∀ b : Fin 256, ((BitVec.ofFin b : BitVec 8).setWidth 32 &&& 15#32).toInt = (nib (BitVec.ofFin b) 0 : ℤ) := by
  decide +kernel
theorem shift_toInt : ∀ b : Fin 256,
    (((BitVec.ofFin b : BitVec 8).setWidth 32).sshiftRight' 4#32).toInt = (nib (BitVec.ofFin b) 1 : ℤ) := by
  decide +kernel

/-- Either, as a float and less 8, is the code's value. -/
theorem mask_val (b : BitVec 8) :
    (((b.setWidth 32 &&& 15#32).toInt : ℝ) : EReal) - Ideal.ofBits .bf16 0x4100#16 = val b 0 := by
  rw [show b = BitVec.ofFin b.toFin from rfl, mask_toInt b.toFin, ofBits_8, ← EReal.coe_sub, val, Int.cast_natCast]
theorem shift_val (b : BitVec 8) :
    ((((b.setWidth 32).sshiftRight' 4#32).toInt : ℝ) : EReal) - Ideal.ofBits .bf16 0x4100#16 = val b 1 := by
  rw [show b = BitVec.ofFin b.toFin from rfl, shift_toInt b.toFin, ofBits_8, ← EReal.coe_sub, val, Int.cast_natCast]

end Cert.Proof.Spec
-- ==== Proof.Block.lean ====
/-
  What ONE BLOCK of the kernel holds, at the ideal instance: row `r`, column `c` of the block stored is the sum of the
  16256 products of row `r` of the activations with column `c` of the weights (`out_apply`), by induction on the step.
-/
module

public import proofs.«01_k».proof.Proof.Steps
public import proofs.«01_k».proof.Proof.Spec

@[expose] public section

set_option maxRecDepth 16384

noncomputable section

namespace Cert.Proof.Block

open Idealize.ShloMosaic Cert.KernelIdeal Cert.KernelIdeal.Gen Cert.Proof.Spec
open scoped BigOperators

/-- A group's weight row `j`, column `c`. -/
theorem deq_apply (w : Vec Ideal S64x512 .i8) (s : Vec Ideal S1x512 .bf16) (j : Fin 128) (c : Fin 512) :
    deq (F := Ideal) w s (ix2 j c) = val (w (ix2 ⟨j.val / 2, by omega⟩ c)) (j.val % 2) * s (ix2 0 c) := by
  unfold deq
  pointwise
  rw [bitcast_32_16]
  have hi : Shape.Bitcasts.srcIdx bitcasts_S64x512_w32_S128x512_w16 (ix2 j c) (Shape.row S128x512 (ix2 j c) / 2)
      (fun a ha => by
        have := Shape.Bitcasts.pos_lt bitcasts_S64x512_w32_S128x512_w16 (ix2 j c) 0 (by decide) a ha; omega)
      = ix2 ⟨j.val / 2, by omega⟩ c := by
    funext a
    match a with
    | ⟨0, _⟩ => rfl
    | ⟨1, _⟩ => rfl
  rw [hi]
  exact congrArg (· * _) (half_val _ (j.val % 2) (Nat.mod_lt _ (by decide)))

/-- One step at an index: the 128 products with the first group and the 128 with the second. -/
theorem step_apply (a : FVec Ideal S512x512 .f32) (w : Vec Ideal S64x512 .i8) (s : Vec Ideal S1x512 .bf16)
    (w' : Vec Ideal S64x512 .i8) (s' : Vec Ideal S1x512 .bf16) (x : Vec Ideal S512x256 .bf16) (r c : Fin 512) :
    step (F := Ideal) a w s w' s' x (ix2 r c) = a (ix2 r c)
      + (∑ k : Fin 128, x (ix2 r ⟨k.val, by omega⟩) * deq (F := Ideal) w s (ix2 k c)
        + ∑ k : Fin 128, x (ix2 r ⟨128 + k.val, by omega⟩) * deq (F := Ideal) w' s' (ix2 k c)) := by
  unfold step
  generalize deq (F := Ideal) w s = d
  generalize deq (F := Ideal) w' s' = d'
  pointwise

/-- The last step at an index. -/
theorem last_apply (a : FVec Ideal S512x512 .f32) (w : Vec Ideal S64x512 .i8) (s : Vec Ideal S1x512 .bf16)
    (x : Vec Ideal S512x128 .bf16) (r c : Fin 512) :
    last (F := Ideal) a w s x (ix2 r c) = a (ix2 r c) + ∑ k : Fin 128, x (ix2 r k) * deq (F := Ideal) w s (ix2 k c) := by
  unfold last
  generalize deq (F := Ideal) w s = d
  pointwise

/-! ### The sums, step by step -/

/-- The first `n + m` products are the first `n` and the `m` after them. -/
theorem dot_add (X : ℕ → EReal) (W : ℕ → BitVec 8) (S : ℕ → EReal) (n m : ℕ) :
    dot X W S (n + m) = dot X W S n + ∑ k : Fin m, X (n + k) * wt W S (n + k) := by
  unfold dot
  rw [Finset.sum_range_add, Finset.sum_range (fun k => X (n + k) * wt W S (n + k))]

variable (x0 : Vec Ideal S512x16256 .bf16) (x1 : Vec Ideal S8128x512 .i8) (x2 : Vec Ideal S127x512 .bf16)

/-- The first `n` products of row `r` of the activations with column `c` of the weights. -/
abbrev part (r c : Fin 512) (n : ℕ) : EReal :=
  dot (fun k => at2 (α := EReal) x0 r k) (fun k => at2 (α := BitVec 8) x1 k c) (fun k => at2 (α := EReal) x2 k c) n

/-- Group `g`'s weight row `k` is weight row `128 g + k`. -/
theorem deq_codes (g : ℕ) (hg : g < 127) (k : Fin 128) (c : Fin 512) :
    deq (F := Ideal) (codes x1 g hg) (scales x2 g hg) (ix2 k c)
      = wt (fun k => at2 (α := BitVec 8) x1 k c) (fun k => at2 (α := EReal) x2 k c) (128 * g + k) := by
  rw [deq_apply, wt, show (128 * g + k.val) / 2 = 64 * g + k.val / 2 by omega,
    show (128 * g + k.val) % 2 = k.val % 2 by omega, show (128 * g + k.val) / 128 = g by omega,
    at2_of_lt x1 (by omega) c.isLt, at2_of_lt x2 hg c.isLt]
  unfold codes scales
  pointwise

/-- The columns a step reads, at an index, -/
theorem cols_apply (n : ℕ) (hn : n < 63) (r : Fin 512) (k : Fin 256) :
    cols (F := Ideal) x0 n hn (ix2 r k) = at2 (α := EReal) x0 r (256 * n + k) := by
  rw [at2_of_lt x0 r.isLt (by omega)]
  unfold cols
  pointwise
/-- and the columns the last step reads. -/
theorem colsLast_apply (r : Fin 512) (k : Fin 128) :
    colsLast (F := Ideal) x0 (ix2 r k) = at2 (α := EReal) x0 r (16128 + k) := by
  rw [at2_of_lt x0 r.isLt (by omega)]
  unfold colsLast
  pointwise

/-- After `n` steps the accumulator holds the first `256 n` products, summed. -/
theorem acc_apply (r c : Fin 512) : ∀ (n : ℕ) (h : n ≤ 63),
    acc (F := Ideal) x0 x1 x2 n h (ix2 r c) = part x0 x1 x2 r c (256 * n)
  | 0, _ => by
    simp only [acc, part, dot, Nat.mul_zero, Finset.range_zero, Finset.sum_empty]
    pointwise
  | n + 1, h => by
    rw [acc, step_apply, acc_apply r c n (by omega)]
    simp only [deq_codes, cols_apply]
    unfold part
    rw [show 256 * (n + 1) = 256 * n + 128 + 128 by omega, dot_add, dot_add, add_assoc]
    simp only [show 128 * (2 * n) = 256 * n by omega, show 128 * (2 * n + 1) = 256 * n + 128 by omega, Nat.add_assoc]

/-- The block holds all 16256 products, summed. -/
theorem block_apply (r c : Fin 512) : block (F := Ideal) x0 x1 x2 (ix2 r c) = part x0 x1 x2 r c 16256 := by
  have e : block (F := Ideal) x0 x1 x2 (ix2 r c)
      = last (F := Ideal) (acc x0 x1 x2 63 (by omega)) (codes x1 126 (by omega)) (scales x2 126 (by omega)) (colsLast x0)
        (ix2 r c) := rfl
  rw [e, last_apply, acc_apply]
  refine Eq.trans ?_ (dot_add _ _ _ (256 * 63) 128).symm
  simp only [deq_codes, colsLast_apply]

/-- What the body leaves in its result block, at an index. -/
theorem out_apply (r c : Fin 512) : out0_3 (F := Ideal) x0 x1 x2 (ix2 r c) = part x0 x1 x2 r c 16256 := by
  rw [out_eq_block, View.canon_unit_zero (by funext a; fin_cases a <;> rfl)]
  exact block_apply x0 x1 x2 r c

end Cert.Proof.Block
-- ==== Proof.Array.lean ====
/-
  What the kernel's RESULT ARRAY holds, at the ideal instance. Grid point `t` writes columns `512 t …` of the result from
  the same columns of the packed weights and the scales, and from all of the activations; so the array the region leaves
  is the product at every index (`final`), and the program's result is that array with a unit axis in front (`run`).
-/
module

public import proofs.«01_k».proof.Proof.Block
public import Idealize.ShloMosaic.Lib.Pipeline.ValueKit

@[expose] public section

set_option maxRecDepth 16384

noncomputable section

namespace Cert.Proof.Array

open Idealize.ShloMosaic Idealize.ShloMosaic.TcCoe Cert.KernelIdeal Cert.KernelIdeal.Gen Cert.Proof.Spec
open Idealize.SL Idealize.SL.Sem
open scoped BigOperators

/-- The product at row `r`, column `c`, of the activations as two axes. -/
def flat (X : S512x16256.Idx → EReal) (W : S8128x18944.Idx → BitVec 8) (S : S127x18944.Idx → EReal) :
    S512x18944.Idx → EReal := fun i =>
  dot (fun k => at2 X (i 0).val k) (fun k => at2 W k (i 1).val) (fun k => at2 S k (i 1).val) 16256

/-- With the activations' unit axis dropped before and the result's put back after, it is the product of the arrays. -/
theorem flat_apply (x : S1x512x16256.Idx → EReal) (w : S8128x18944.Idx → BitVec 8) (s : S127x18944.Idx → EReal)
    (r : Fin 512) (q : Fin 18944) :
    shapeCast S1x512x18944 (flat (shapeCast S512x16256 x shapeCasts_S1x512x16256_S512x16256) w s)
        shapeCasts_S512x18944_S1x512x18944 (ix3 0 r q)
      = product x w s r q := by
  have hx (r : Fin 512) (k : Fin 16256) : shapeCast S512x16256 x shapeCasts_S1x512x16256_S512x16256 (ix2 r k) = x (ix3 0 r k) := by
    pointwise
  have e (k : ℕ) : at2 (shapeCast S512x16256 x shapeCasts_S1x512x16256_S512x16256) r.val k
      = if h : k < 16256 then x (ix3 0 r ⟨k, h⟩) else 0 := by
    by_cases h : k < 16256
    · rw [at2_of_lt _ r.isLt h, dif_pos h]
      exact hx r ⟨k, h⟩
    · rw [dif_neg h, at2, dif_neg (fun h' => h h'.2)]
  unfold product
  simp only [← e]
  generalize shapeCast S512x16256 x shapeCasts_S1x512x16256_S512x16256 = X
  have hf (f : S512x18944.Idx → EReal) : shapeCast S1x512x18944 f shapeCasts_S512x18944_S1x512x18944 (ix3 0 r q) = f (ix2 r q) := by
    pointwise
  exact hf _

variable (m : (ℓ : Loc nD τ sig) → Buf (Elt Ideal) ℓ) (ρ : Dev nD → PrngReg)

/-- Point `t` is on the one block of the activations and on block `t` along the columns of the other three arrays. -/
theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)
theorem idx3 : ∀ t : Fin cfg0.N, win0_3.index t = ![0, t.val] := (by decide +kernel : ∀ t : Fin grid0.N, _)

/-- Point `t`'s block of the activations is all of them; -/
theorem blk0 (c : Dev nD) (t : Fin cfg0.N) (r k : ℕ) :
    at2 (α := EReal) (R := 512) (C := 16256) (iblk m c 0 t) r k
      = at2 (α := EReal) (R := 512) (C := 16256) (V m c main_v0) r k := by
  unfold at2
  split
  · blk_simp [iblk]
    refine congrArg (V m c main_v0) ?_
    blk_ext [idx0 t]
  · rfl

/-- its block of the packed weights is their columns `512 t …`. -/
theorem blk1 (c : Dev nD) (t : Fin cfg0.N) (q : Fin 512) (k : ℕ) :
    at2 (α := BitVec 8) (R := 8128) (C := 512) (iblk m c 1 t) k q
      = at2 (α := BitVec 8) (R := 8128) (C := 18944) (m ((c : Thread nD τ).loc main_arg1)) k (512 * t.val + q) := by
  have ht : t.val < 37 := t.isLt
  unfold at2
  by_cases hk : k < 8128
  · rw [dif_pos ⟨hk, q.isLt⟩, dif_pos ⟨hk, by omega⟩, ← V_main_arg1 m c]
    blk_simp [iblk]
    refine congrArg (V m c main_arg1) ?_
    blk_ext [idx1 t]
  · rw [dif_neg (fun h => hk h.1), dif_neg (fun h => hk h.1)]
/-- The same of the scales. -/
theorem blk2 (c : Dev nD) (t : Fin cfg0.N) (q : Fin 512) (k : ℕ) :
    at2 (α := EReal) (R := 127) (C := 512) (iblk m c 2 t) k q
      = at2 (α := EReal) (R := 127) (C := 18944) (m ((c : Thread nD τ).loc main_arg2)) k (512 * t.val + q) := by
  have ht : t.val < 37 := t.isLt
  unfold at2
  by_cases hk : k < 127
  · rw [dif_pos ⟨hk, q.isLt⟩, dif_pos ⟨hk, by omega⟩, ← V_main_arg2 m c]
    blk_simp [iblk]
    refine congrArg (V m c main_arg2) ?_
    blk_ext [idx2 t]
  · rw [dif_neg (fun h => hk h.1), dif_neg (fun h => hk h.1)]

/-- What the region leaves in the result array. -/
theorem final (c : Dev nD) : (dats m 0 c).arrAt 3 cfg0.N
    = flat (V m c main_v0) (m ((c : Thread nD τ).loc main_arg1)) (m ((c : Thread nD τ).loc main_arg2)) := by
  refine (dats m 0 c).arrAt_eq_of_covers 3 _ (by decide +kernel) fun t hf y => ?_
  blk_simp
  rw [after0_3]
  obtain ⟨r, q, rfl⟩ : ∃ (r q : Fin 512), y = ix2 r q := ⟨y 0, y 1, eq_ix2 y⟩
  have e0 : ((win0_3.blk t).view.emb (ix2 r q) 0).val = r.val := by blk_simp [idx3 t]
  have e1 : ((win0_3.blk t).view.emb (ix2 r q) 1).val = 512 * t.val + q.val := by
    blk_simp [idx3 t]; omega
  rw [Block.out_apply]
  unfold Block.part flat
  rw [e0, e1]
  simp only [blk0, blk1, blk2]

/-- The program's result array after the line that follows the region. -/
theorem tail (c : Dev nD) : Pipeline.afterTail₀ cfgs (dats m) 0 (V0 m) [hostOps1] c main_v2
    = shapeCast S1x512x18944 ((dats m 0 c).arrAt 3 cfg0.N) shapeCasts_S512x18944_S1x512x18944 := by
  have e : Pipeline.withArrays spec0 c (V0 m c) (fun w => (dats m 0 c).arrAt w cfg0.N) (Proc.devRef .tc main_v1)
      = (dats m 0 c).arrAt 3 cfg0.N := Pipeline.withArrays_arr spec0 launch0.win.arr_inj c (V0 m c) _ 3
  rw [← e]
  unfold Pipeline.afterTail₀
  show StableHlo.after hostOps1 _ _ = _
  generalize Pipeline.withArrays (cfgs 0).spec c (V0 m c) _ = A
  after_results_simp
  rfl

/-- The activations as the region finds them. -/
theorem entry (c : Dev nD) : V m c main_v0
    = shapeCast S512x16256 (m ((c : Thread nD τ).loc main_arg0)) shapeCasts_S1x512x16256_S512x16256 := by
  show StableHlo.after hostOps0 _ _ = _
  after_results_simp
  rfl

/-- The result at an index, as the product of the three argument arrays. -/
theorem result_apply (c : Dev nD) (r : Fin 512) (q : Fin 18944) :
    Pipeline.afterTail₀ cfgs (dats m) 0 (V0 m) [hostOps1] c main_v2 (ix3 0 r q)
      = product (m ((c : Thread nD τ).loc main_arg0)) (m ((c : Thread nD τ).loc main_arg1))
          (m ((c : Thread nD τ).loc main_arg2)) r q := by
  rw [tail, final, entry]
  exact flat_apply _ _ _ r q

/-- Every run of the program ends with its result array at the product and its arguments unchanged. -/
theorem run : θ_run defs (onTc (τ := τ) (main (F := Ideal))) ⟨m, fun _ => 0, ρ⟩ (fun r => ∀ c : Dev nD,
    r.2.mem ((c.tc : Thread nD τ).loc main_v2) = (fun i : S1x512x18944.Idx =>
        product (m ((c.tc : Thread nD τ).loc main_arg0)) (m ((c.tc : Thread nD τ).loc main_arg1))
          (m ((c.tc : Thread nD τ).loc main_arg2)) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun _ h c => ⟨?_, h.2 c⟩) (θ_run_and (run_main m ρ) (unchanged m ρ))
  rw [(h.1 c).2 main_v2 (Pipeline.mem_restRefs_of main_v2 (by decide) (by decide))]
  funext i
  obtain ⟨a, r, q, rfl⟩ : ∃ (a : Fin 1) (r : Fin 512) (q : Fin 18944), i = ix3 a r q := ⟨i 0, i 1, i 2, eq_ix3 i⟩
  obtain rfl : a = 0 := Subsingleton.elim _ _
  exact result_apply m c r q

end Cert.Proof.Array
-- ==== Proof.Reference.lean ====
/-
  What the REFERENCE computes, at the ideal instance: two sums over 8128 packed rows, the even columns of the activations
  with the weights in the low four bits and the odd columns with those in the high four bits. Together they are the same
  16256 products (`result_apply`).
-/
module

public import proofs.«01_k».proof.Proof.Spec
public import proofs.«01_k».proof.Proof.Gen.ReferenceIdeal.Run
public import proofs.«01_k».proof.Proof.Gen.ReferenceIdeal.Read

@[expose] public section

set_option maxRecDepth 16384

noncomputable section

namespace Cert.Proof.Reference

open Idealize.ShloMosaic Cert.ReferenceIdeal Cert.ReferenceIdeal.Gen Cert.ReferenceIdeal.Read Cert.Proof.Spec
open Idealize.SL Idealize.SL.Sem
open scoped BigOperators

variable (x : S1x512x16256.Idx → EReal) (w : S8128x18944.Idx → BitVec 8) (s : S127x18944.Idx → EReal)

/-- The weights in the low four bits, -/
theorem low_apply (k : Fin 8128) (c : Fin 18944) :
    val_main_v12 (F := Ideal) w s (ix2 k c) = val (w (ix2 k c)) 0 * s (ix2 ⟨k.val / 64, by omega⟩ c) := by
  pointwise [val_main_v12, val_main_v11, val_main_v10, val_main_v9, val_main_v8, val_main_v7, val_main_v6, val_main_v5,
    val_main_v2, val_main_v1, val_main_v0, val_main_c, val_main_cst]
  exact congrArg (· * _) (mask_val _)

/-- and in the high four bits. -/
theorem high_apply (k : Fin 8128) (c : Fin 18944) :
    val_main_v20 (F := Ideal) w s (ix2 k c) = val (w (ix2 k c)) 1 * s (ix2 ⟨k.val / 64, by omega⟩ c) := by
  pointwise [val_main_v20, val_main_v19, val_main_v18, val_main_v17, val_main_v16, val_main_v15, val_main_v14,
    val_main_v13, val_main_v4, val_main_v3, val_main_v0, val_main_c_0, val_main_cst_1]
  exact congrArg (· * _) (shift_val _)

/-- The even columns of the activations, -/
theorem even_apply (r : Fin 512) (k : Fin 8128) :
    val_main_v21 (F := Ideal) x (ix3 0 r k) = x (ix3 0 r ⟨2 * k.val, by omega⟩) := by
  pointwise [val_main_v21]
/-- and the odd columns. -/
theorem odd_apply (r : Fin 512) (k : Fin 8128) :
    val_main_v23 (F := Ideal) x (ix3 0 r k) = x (ix3 0 r ⟨2 * k.val + 1, by omega⟩) := by
  pointwise [val_main_v23]
  exact congrArg (fun k => x (ix3 0 r k)) (Fin.ext (Nat.add_comm _ _))

/-- The reference's result at an index is the product of the three argument arrays. -/
theorem result_apply (r : Fin 512) (c : Fin 18944) :
    val_main_v26 (F := Ideal) x w s (ix3 0 r c) = product x w s r c := by
  have h := dot_even_odd (fun k => if h : k < 16256 then x (ix3 0 r ⟨k, h⟩) else 0) (fun k => at2 w k c)
    (fun k => at2 s k c) 8128
  refine Eq.trans ?_ h.symm
  rw [val_main_v26_apply, val_main_v25_apply, val_main_v22_apply, val_main_v24_apply]
  have hl (k : Fin 8128) : lidx_main_v22 (ix3 0 r c) k = ix3 0 r k := by funext a; match a with
    | ⟨0, _⟩ => rfl
    | ⟨1, _⟩ => rfl
    | ⟨2, _⟩ => rfl
  have hl' (k : Fin 8128) : lidx_main_v24 (ix3 0 r c) k = ix3 0 r k := hl k
  have hr (k : Fin 8128) : ridx_main_v22 (ix3 0 r c) k = ix2 k c := by funext a; match a with
    | ⟨0, _⟩ => rfl
    | ⟨1, _⟩ => rfl
  have hr' (k : Fin 8128) : ridx_main_v24 (ix3 0 r c) k = ix2 k c := hr k
  refine congrArg₂ (fun a b : EReal => a + b) (Finset.sum_congr rfl fun k _ => ?_) (Finset.sum_congr rfl fun k _ => ?_)
  · have h0 : 2 * k.val < 16256 := by omega
    rw [hl, hr, even_apply, low_apply, dif_pos h0, at2_of_lt w k.isLt c.isLt, at2_of_lt s (by omega) c.isLt]
  · have h1 : 2 * k.val + 1 < 16256 := by omega
    rw [hl', hr', odd_apply, high_apply, dif_pos h1, at2_of_lt w k.isLt c.isLt, at2_of_lt s (by omega) c.isLt]

variable (m : (ℓ : Loc nD τ sig) → Buf (Elt Ideal) ℓ) (ρ : Dev nD → PrngReg)

/-- Every run of the reference ends with its result array at the product and its arguments unchanged. -/
theorem run : θ_run defs (onTc (τ := τ) (main (F := Ideal))) ⟨m, fun _ => 0, ρ⟩ (fun r => ∀ c : Dev nD,
    r.2.mem ((c.tc : Thread nD τ).loc main_v26) = (fun i : S1x512x18944.Idx =>
        product (m ((c.tc : Thread nD τ).loc main_arg0)) (m ((c.tc : Thread nD τ).loc main_arg1))
          (m ((c.tc : Thread nD τ).loc main_arg2)) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun _ h c => ⟨(h c).1.trans ?_, (h c).2⟩) (Cert.ReferenceIdeal.Value.run (F := Ideal) m ρ)
  rw [val_main_v26_eq]
  funext i
  obtain ⟨a, r, q, rfl⟩ : ∃ (a : Fin 1) (r : Fin 512) (q : Fin 18944), i = ix3 a r q := ⟨i 0, i 1, i 2, eq_ix3 i⟩
  obtain rfl : a = 0 := Subsingleton.elim _ _
  exact result_apply _ _ _ r q

end Cert.Proof.Reference
-- ==== Proof.lean ====
/-
  The proof of `Cert.Claim` (Defs.lean): the three frames, the idealization, and the equation at the ideal instance. What
  the kernel's result holds is Proof/Array.lean, over one block's value in Proof/Block.lean; what the reference's result
  holds is Proof/Reference.lean; both are stated by `product` of Proof/Spec.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Array
public import proofs.«01_k».proof.Proof.Reference
public import Idealize.ShloMosaic.Adequacy
public import Idealize.ShloMosaic.Init

@[expose] public section

noncomputable section

namespace Cert.Proof

open Idealize.ShloMosaic Idealize.SL.Sem Cert.Kernel

/-- The kernel runs, its arguments end unchanged and every counter ends at zero, at the chip's words -/
theorem frame_kernel : Cert.quiescent_Kernel := fun m ρ _ => Cert.Kernel.Gen.frame m ρ
/-- and at the ideal instance. -/
theorem frame_kernelIdeal : Cert.quiescent_KernelIdeal := fun m ρ _ => Cert.KernelIdeal.Gen.frame m ρ
/-- So does the reference at the ideal instance; it has no counters. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Reference.run m ρ)

/-- At the ideal instance the kernel and the reference end with the same result: the product of the arguments. -/
theorem algebraic : Cert.algebraic_KernelIdeal_ReferenceIdeal := by
  intro m ρ m' ρ' _ hagree
  refine ⟨fun c => fun i : Cert.KernelIdeal.S1x512x18944.Idx =>
    Spec.product (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (i 1) (i 2),
    Array.run m ρ, ?_⟩
  refine (θ_run Cert.ReferenceIdeal.defs _ _).mono (fun _ h c => ⟨(h c).1.trans ?_, (h c).2⟩) (Reference.run m' ρ')
  rw [(hagree c).1, (hagree c).2.1, (hagree c).2.2]

/-- All five claims. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
